-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x1280 : Shape := ⟨3, ![8, 4096, 1280]⟩
abbrev S8x4096 : Shape := ⟨2, ![8, 4096]⟩
abbrev S1280x256 : Shape := ⟨2, ![1280, 256]⟩
abbrev S256 : Shape := ⟨1, ![256]⟩
abbrev S256x1280 : Shape := ⟨2, ![256, 1280]⟩
abbrev S1280 : Shape := ⟨1, ![1280]⟩
abbrev S32768x1280 : Shape := ⟨2, ![32768, 1280]⟩
abbrev S32768x1 : Shape := ⟨2, ![32768, 1]⟩
abbrev S1x256 : Shape := ⟨2, ![1, 256]⟩
abbrev S1x1280 : Shape := ⟨2, ![1, 1280]⟩
abbrev S32768x256 : Shape := ⟨2, ![32768, 256]⟩
abbrev S2048x1280 : Shape := ⟨2, ![2048, 1280]⟩
abbrev S2048x1 : Shape := ⟨2, ![2048, 1]⟩
abbrev S2048x256 : Shape := ⟨2, ![2048, 256]⟩
abbrev S8x4096x256 : Shape := ⟨3, ![8, 4096, 256]⟩

abbrev nBuf : Space → Nat
  | .hbm => 15
  | .vmem => 12
  | .smem => 0
  | _ => 0

abbrev bufTy : (tb : Table) → Fin (tcTables nBuf tb) → BufTy
  | .hbm, ⟨0, _⟩ => ⟨S8x4096x1280, .f32⟩
  | .hbm, ⟨1, _⟩ => ⟨S8x4096, .i1⟩
  | .hbm, ⟨2, _⟩ => ⟨S1280x256, .f32⟩
  | .hbm, ⟨3, _⟩ => ⟨S256, .f32⟩
  | .hbm, ⟨4, _⟩ => ⟨S256x1280, .f32⟩
  | .hbm, ⟨5, _⟩ => ⟨S1280, .f32⟩
  | .hbm, ⟨6, _⟩ => ⟨S32768x1280, .f32⟩
  | .hbm, ⟨7, _⟩ => ⟨S32768x1, .i1⟩
  | .hbm, ⟨8, _⟩ => ⟨S32768x1, .f32⟩
  | .hbm, ⟨9, _⟩ => ⟨S1x256, .f32⟩
  | .hbm, ⟨10, _⟩ => ⟨S1x1280, .f32⟩
  | .hbm, ⟨11, _⟩ => ⟨S32768x1280, .f32⟩
  | .hbm, ⟨12, _⟩ => ⟨S32768x256, .f32⟩
  | .hbm, ⟨13, _⟩ => ⟨S8x4096x1280, .f32⟩
  | .hbm, ⟨14, _⟩ => ⟨S8x4096x256, .f32⟩
  | .local _ .vmem, ⟨0, _⟩ => ⟨S2048x1280, .f32⟩
  | .local _ .vmem, ⟨1, _⟩ => ⟨S2048x1280, .f32⟩
  | .local _ .vmem, ⟨2, _⟩ => ⟨S2048x1, .f32⟩
  | .local _ .vmem, ⟨3, _⟩ => ⟨S2048x1, .f32⟩
  | .local _ .vmem, ⟨4, _⟩ => ⟨S1280x256, .f32⟩
  | .local _ .vmem, ⟨5, _⟩ => ⟨S1x256, .f32⟩
  | .local _ .vmem, ⟨6, _⟩ => ⟨S256x1280, .f32⟩
  | .local _ .vmem, ⟨7, _⟩ => ⟨S1x1280, .f32⟩
  | .local _ .vmem, ⟨8, _⟩ => ⟨S2048x1280, .f32⟩
  | .local _ .vmem, ⟨9, _⟩ => ⟨S2048x1280, .f32⟩
  | .local _ .vmem, ⟨10, _⟩ => ⟨S2048x256, .f32⟩
  | .local _ .vmem, ⟨11, _⟩ => ⟨S2048x256, .f32⟩
  | _, _ => ⟨S8x4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x4096x1280 : Shape := ⟨3, ![8, 4096, 1280]⟩
abbrev S8x4096 : Shape := ⟨2, ![8, 4096]⟩
abbrev S1280x256 : Shape := ⟨2, ![1280, 256]⟩
abbrev S256 : Shape := ⟨1, ![256]⟩
abbrev S256x1280 : Shape := ⟨2, ![256, 1280]⟩
abbrev S1280 : Shape := ⟨1, ![1280]⟩
abbrev S8x4096x256 : Shape := ⟨3, ![8, 4096, 256]⟩
abbrev S1x1x256 : Shape := ⟨3, ![1, 1, 256]⟩
abbrev S1x1x1280 : Shape := ⟨3, ![1, 1, 1280]⟩
abbrev S8x4096x1 : Shape := ⟨3, ![8, 4096, 1]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8x4096x1280, .f32⟩
  | .hbm, ⟨1, _⟩ => ⟨S8x4096, .i1⟩
  | .hbm, ⟨2, _⟩ => ⟨S1280x256, .f32⟩
  | .hbm, ⟨3, _⟩ => ⟨S256, .f32⟩
  | .hbm, ⟨4, _⟩ => ⟨S256x1280, .f32⟩
  | .hbm, ⟨5, _⟩ => ⟨S1280, .f32⟩
  | .hbm, ⟨6, _⟩ => ⟨S8x4096x256, .f32⟩
  | .hbm, ⟨7, _⟩ => ⟨S1x1x256, .f32⟩
  | .hbm, ⟨8, _⟩ => ⟨S8x4096x256, .f32⟩
  | .hbm, ⟨9, _⟩ => ⟨S8x4096x256, .f32⟩
  | .hbm, ⟨10, _⟩ => ⟨S8x4096x1280, .f32⟩
  | .hbm, ⟨11, _⟩ => ⟨S1x1x1280, .f32⟩
  | .hbm, ⟨12, _⟩ => ⟨S8x4096x1280, .f32⟩
  | .hbm, ⟨13, _⟩ => ⟨S8x4096x1280, .f32⟩
  | .hbm, ⟨14, _⟩ => ⟨S8x4096x1, .i1⟩
  | .hbm, ⟨15, _⟩ => ⟨S_, .f32⟩
  | .hbm, ⟨16, _⟩ => ⟨S_, .f32⟩
  | .hbm, ⟨17, _⟩ => ⟨S8x4096x1280, .i1⟩
  | .hbm, ⟨18, _⟩ => ⟨S8x4096x1280, .f32⟩
  | .hbm, ⟨19, _⟩ => ⟨S8x4096x1280, .f32⟩
  | _, _ => ⟨S8x4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Proof.Block.lean ====
/- WHAT ONE BLOCK COMPUTES. The kernel's two stored values, over the extended reals, read at a row and a column: the
   hidden block is the first product with its bias, and the output block is the second product with its bias, times the
   row's mask entry. -/
module

public import proofs.«01_k».proof.Proof.Gen.KernelIdeal.Skeleton
public import Idealize.ShloMosaic.Lib.Pointwise
public import Idealize.ShloMosaic.PureOps.Ideal

@[expose] public section

noncomputable section

namespace Cert.Proof.Block

open Idealize.ShloMosaic Cert.KernelIdeal Cert.KernelIdeal.Gen Idealize.ShloMosaic.Pointwise

/-- The hidden block at row `r` and column `c`: the row of the input against the column of the weights, plus the bias. -/
theorem hidden_apply (z : Vec Ideal S2048x1280 .f32) (w : Vec Ideal S1280x256 .f32) (b : Vec Ideal S1x256 .f32)
    (r : Fin 2048) (c : Fin 256) :
    k0_pay1 z w b (ix2 r c) = (∑ k : Fin 1280, z (ix2 r k) * w (ix2 k c)) + b (ix2 0 c) := by
  pointwise [k0_pay1]
  done

/-- The output block at row `r` and column `c`: the hidden row against the column of the second weights, plus the second
    bias, the sum times the row's mask entry. -/
theorem output_apply (z : Vec Ideal S2048x1280 .f32) (w : Vec Ideal S1280x256 .f32) (b : Vec Ideal S1x256 .f32)
    (w' : Vec Ideal S256x1280 .f32) (b' : Vec Ideal S1x1280 .f32) (m : Vec Ideal S2048x1 .f32)
    (r : Fin 2048) (c : Fin 1280) :
    k0_pay2 z w b w' b' m (ix2 r c)
      = ((∑ k : Fin 256, k0_pay1 z w b (ix2 r k) * w' (ix2 k c)) + b' (ix2 0 c)) * m (ix2 r 0) := by
  pointwise [k0_pay2]
  done

end Cert.Proof.Block

end
-- ==== Proof.Arrays.lean ====
/- WHAT THE CALL'S TWO RESULT ARRAYS HOLD. The sixteen blocks of 2048 rows tile each array, and the block written at a
   grid point is the payload over that point's input blocks; so each array is one closed form over the whole arrays. -/
module

public import proofs.«01_k».proof.Proof.Block
public import proofs.«01_k».proof.Proof.Gen.KernelIdeal.Frame
public import Idealize.ShloMosaic.Lib.Pipeline.ValueKit

@[expose] public section

set_option maxRecDepth 16384

noncomputable section

namespace Cert.Proof.Arrays

open Idealize.ShloMosaic Cert.KernelIdeal Cert.KernelIdeal.Gen Idealize.ShloMosaic.Pointwise

/-- The hidden array: the rows `Z` against the weights `W`, plus the bias row `B`. -/
def hid (Z : Vec Ideal S32768x1280 .f32) (W : Vec Ideal S1280x256 .f32) (B : Vec Ideal S1x256 .f32) :
    Vec Ideal S32768x256 .f32 :=
  fun i => (∑ k : Fin 1280, Z (ix2 (i 0) k) * W (ix2 k (i 1))) + B (ix2 0 (i 1))

/-- The output array: the hidden array against the weights `W'`, plus the bias row `B'`, each row times its entry of the
    mask column `M`. -/
def out (Z : Vec Ideal S32768x1280 .f32) (M : Vec Ideal S32768x1 .f32) (W : Vec Ideal S1280x256 .f32)
    (B : Vec Ideal S1x256 .f32) (W' : Vec Ideal S256x1280 .f32) (B' : Vec Ideal S1x1280 .f32) :
    Vec Ideal S32768x1280 .f32 :=
  fun i => ((∑ k : Fin 256, hid Z W B (ix2 (i 0) k) * W' (ix2 k (i 1))) + B' (ix2 0 (i 1))) * M (ix2 (i 0) 0)

/-- Where each window's block lies at a grid point: the row-blocked windows at the point's own block of rows, the weights
    and biases at the whole of their arrays. -/
theorem idx : ∀ t : Fin grid0.N,
    win0_0.index t = ![(grid0.coords t 0).val, 0] ∧ win0_1.index t = ![(grid0.coords t 0).val, 0]
      ∧ win0_2.index t = ![0, 0] ∧ win0_3.index t = ![0, 0] ∧ win0_4.index t = ![0, 0] ∧ win0_5.index t = ![0, 0]
      ∧ win0_6.index t = ![(grid0.coords t 0).val, 0] ∧ win0_7.index t = ![(grid0.coords t 0).val, 0] := by
  decide +kernel

variable (m : (ℓ : Loc nD τ sig) → Buf (Elt Ideal) ℓ) (c : Dev nD)

/-- After the run the call's second result holds the hidden array of the arrays the call was given. -/
theorem hidden_eq : (dats m 0 c).arrAt 7 cfg0.N = hid (V m c main_v0) (V m c main_arg2) (V m c main_v3) := by
  refine (dats m 0 c).arrAt_eq_of_covers 7 _ (by decide +kernel) fun t hf y => ?_
  blk_simp
  rw [after0_7]
  frame_out
  obtain ⟨r, q, rfl⟩ : ∃ (r : Fin 2048) (q : Fin 256), y = ix2 r q := ⟨y 0, y 1, eq_ix2 y⟩
  refine (Block.hidden_apply _ _ _ r q).trans ?_
  simp only [hid]
  blk_point [iblk, V, idx t]

/-- After the run the call's first result holds the output array of the arrays the call was given. -/
theorem output_eq : (dats m 0 c).arrAt 6 cfg0.N
    = out (V m c main_v0) (V m c main_v2) (V m c main_arg2) (V m c main_v3) (V m c main_arg4) (V m c main_v4) := by
  refine (dats m 0 c).arrAt_eq_of_covers 6 _ (by decide +kernel) fun t hf y => ?_
  blk_simp
  rw [after0_6]
  frame_out
  obtain ⟨r, q, rfl⟩ : ∃ (r : Fin 2048) (q : Fin 1280), y = ix2 r q := ⟨y 0, y 1, eq_ix2 y⟩
  refine (Block.output_apply _ _ _ _ _ _ r q).trans ?_
  simp only [Block.hidden_apply]
  simp only [out, hid]
  blk_point [iblk, V, idx t]

end Cert.Proof.Arrays

end
-- ==== Proof.Run.lean ====
/- THE KERNEL'S RUN, WITH ITS RESULTS. The call's two arrays, reshaped back to a batch of rows, in terms of the six
   arguments as launched. -/
module

public import proofs.«01_k».proof.Proof.Arrays
public import Idealize.ShloMosaic.Lib.Claim

@[expose] public section

set_option maxRecDepth 16384

noncomputable section

namespace Cert.Proof.Run

open Idealize.ShloMosaic Idealize.ShloMosaic.TcCoe Idealize.SL.Sem Cert.KernelIdeal Cert.KernelIdeal.Gen

/-- The kernel's second result as a function of its arguments: the hidden array of the flattened input, reshaped. -/
def hidden (z : Vec Ideal S8x4096x1280 .f32) (w : Vec Ideal S1280x256 .f32) (b : Vec Ideal S256 .f32) :
    Vec Ideal S8x4096x256 .f32 :=
  shapeCast S8x4096x256
    (Arrays.hid (shapeCast S32768x1280 z shapeCasts_S8x4096x1280_S32768x1280) w (shapeCast S1x256 b shapeCasts_S256_S1x256))
    shapeCasts_S32768x256_S8x4096x256

/-- The kernel's first result as a function of its arguments: the output array of the flattened input and of the
    flattened mask taken to numbers, reshaped. -/
def output (z : Vec Ideal S8x4096x1280 .f32) (mask : Vec Ideal S8x4096 .i1) (w : Vec Ideal S1280x256 .f32)
    (b : Vec Ideal S256 .f32) (w' : Vec Ideal S256x1280 .f32) (b' : Vec Ideal S1280 .f32) :
    Vec Ideal S8x4096x1280 .f32 :=
  shapeCast S8x4096x1280
    (Arrays.out (shapeCast S32768x1280 z shapeCasts_S8x4096x1280_S32768x1280)
      (uitofp (F := Ideal) .f32 (shapeCast S32768x1 mask shapeCasts_S8x4096_S32768x1)) w
      (shapeCast S1x256 b shapeCasts_S256_S1x256) w' (shapeCast S1x1280 b' shapeCasts_S1280_S1x1280))
    shapeCasts_S32768x1280_S8x4096x1280

variable (m : (ℓ : Loc nD τ sig) → Buf (Elt Ideal) ℓ) (ρ : Dev nD → PrngReg)

/-- The two reshapes that follow the call, from any contents `X` of the buffers: each result is its array reshaped. -/
theorem tail_results (X : Valuation τ sig (Elt Ideal)) :
    StableHlo.after hostOps1 X (Proc.devRef .tc main_v6)
        = shapeCast S8x4096x1280 (X (Proc.devRef .tc main_v5_0) : Vec Ideal S32768x1280 .f32)
            shapeCasts_S32768x1280_S8x4096x1280
      ∧ StableHlo.after hostOps1 X (Proc.devRef .tc main_v7)
        = shapeCast S8x4096x256 (X (Proc.devRef .tc main_v5_1) : Vec Ideal S32768x256 .f32)
            shapeCasts_S32768x256_S8x4096x256 := by
  constructor
  · unfold hostOps1
    after_results
    rfl
  · unfold hostOps1
    after_results
    rfl

/-- At the call, `main_v0` is the flattened input. -/
theorem entry_v0 (c : Dev nD) : (V m c main_v0 : Vec Ideal S32768x1280 .f32)
    = shapeCast S32768x1280 (m ((c.tc : Thread nD τ).loc main_arg0)) shapeCasts_S8x4096x1280_S32768x1280 := by
  change StableHlo.after hostOps0 (fun b => m (c, b)) (Proc.devRef .tc main_v0) = _
  unfold hostOps0
  after_results
  rfl

/-- At the call, `main_v2` is the flattened mask taken to numbers. -/
theorem entry_v2 (c : Dev nD) : (V m c main_v2 : Vec Ideal S32768x1 .f32)
    = uitofp (F := Ideal) .f32 (shapeCast S32768x1 (m ((c.tc : Thread nD τ).loc main_arg1)) shapeCasts_S8x4096_S32768x1) := by
  change StableHlo.after hostOps0 (fun b => m (c, b)) (Proc.devRef .tc main_v2) = _
  unfold hostOps0
  after_results
  rfl

/-- At the call, `main_v3` is the first bias as a row. -/
theorem entry_v3 (c : Dev nD) : (V m c main_v3 : Vec Ideal S1x256 .f32)
    = shapeCast S1x256 (m ((c.tc : Thread nD τ).loc main_arg3)) shapeCasts_S256_S1x256 := by
  change StableHlo.after hostOps0 (fun b => m (c, b)) (Proc.devRef .tc main_v3) = _
  unfold hostOps0
  after_results
  rfl

/-- At the call, `main_v4` is the second bias as a row. -/
theorem entry_v4 (c : Dev nD) : (V m c main_v4 : Vec Ideal S1x1280 .f32)
    = shapeCast S1x1280 (m ((c.tc : Thread nD τ).loc main_arg5)) shapeCasts_S1280_S1x1280 := by
  change StableHlo.after hostOps0 (fun b => m (c, b)) (Proc.devRef .tc main_v4) = _
  unfold hostOps0
  after_results
  rfl

/-- After the call and the reshapes, the first result is `output` of the arguments. -/
theorem output_tail (c : Dev nD) : Pipeline.afterTail₀ cfgs (dats m) 0 (V0 m) [hostOps1] c main_v6
    = output (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  unfold Pipeline.afterTail₀
  refine (tail_results _).1.trans ?_
  unfold output
  refine congrArg (fun x => shapeCast S8x4096x1280 x shapeCasts_S32768x1280_S8x4096x1280) ?_
  refine (Pipeline.withArrays_arr spec0 (by decide) c (V0 m c) _ 6).trans ((Arrays.output_eq m c).trans ?_)
  rw [entry_v0, entry_v2, entry_v3, entry_v4, V_main_arg2, V_main_arg4]

/-- After the call and the reshapes, the second result is `hidden` of the arguments. -/
theorem hidden_tail (c : Dev nD) : Pipeline.afterTail₀ cfgs (dats m) 0 (V0 m) [hostOps1] c main_v7
    = hidden (m ((c.tc : Thread nD τ).loc main_arg0)) (m ((c.tc : Thread nD τ).loc main_arg2))
        (m ((c.tc : Thread nD τ).loc main_arg3)) := by
  unfold Pipeline.afterTail₀
  refine (tail_results _).2.trans ?_
  unfold hidden
  refine congrArg (fun x => shapeCast S8x4096x256 x shapeCasts_S32768x256_S8x4096x256) ?_
  refine (Pipeline.withArrays_arr spec0 (by decide) c (V0 m c) _ 7).trans ((Arrays.hidden_eq m c).trans ?_)
  rw [entry_v0, entry_v3, V_main_arg2]

/-- Every execution of the kernel over the extended reals ends with its two results at `output` and `hidden` of the
    arguments, and the arguments as launched. -/
theorem run : θ_run defs (onTc (τ := τ) (main (F := Ideal))) ⟨m, fun _ => 0, ρ⟩ (fun r => ∀ c : Dev nD,
      r.2.mem ((c.tc : Thread nD τ).loc main_v6)
        = output (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_v7)
        = hidden (m ((c.tc : Thread nD τ).loc main_arg0)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  run_from run_main m ρ & unchanged m ρ
  · exact output_tail m c
  · exact hidden_tail m c

end Cert.Proof.Run

end
-- ==== Proof.Reference.lean ====
/- WHAT THE REFERENCE COMPUTES. Its two results as functions of its arguments, read at a batch, a row and a column. -/
module

public import proofs.«01_k».proof.Proof.Gen.ReferenceIdeal.Run
public import Idealize.ShloMosaic.Lib.Pointwise
public import Idealize.ShloMosaic.PureOps.Ideal

@[expose] public section

set_option maxRecDepth 16384

noncomputable section

namespace Cert.Proof.Reference

open Idealize.ShloMosaic Cert.ReferenceIdeal Cert.ReferenceIdeal.Gen Idealize.ShloMosaic.Pointwise

/-- The reference's second result: the input against the first weights, plus the first bias. -/
def hidden (z : FVec Ideal S8x4096x1280 .f32) (w : FVec Ideal S1280x256 .f32) (b : FVec Ideal S256 .f32) :
    FVec Ideal S8x4096x256 .f32 :=
  addf (Host.dotGeneral dot_S8x4096x1280_S1280x256_S8x4096x256_2_0_01_1_n_n none z w)
    (broadcastInDim S8x4096x256 ![0, 1, 2] bcast_S1x1x256_S8x4096x256_0_1_2
      (broadcastInDim S1x1x256 ![2] bcast_S256_S1x1x256_2 b))

/-- The reference's first result: the second result against the second weights, plus the second bias, where the mask
    holds; zero elsewhere. -/
def output (z : FVec Ideal S8x4096x1280 .f32) (mask : Vec Ideal S8x4096 .i1) (w : FVec Ideal S1280x256 .f32)
    (b : FVec Ideal S256 .f32) (w' : FVec Ideal S256x1280 .f32) (b' : FVec Ideal S1280 .f32) :
    FVec Ideal S8x4096x1280 .f32 :=
  select
    (broadcastInDim S8x4096x1280 ![0, 1, 2] bcast_S8x4096x1_S8x4096x1280_0_1_2
      (broadcastInDim S8x4096x1 ![0, 1] bcast_S8x4096_S8x4096x1_0_1 mask))
    (addf (Host.dotGeneral dot_S8x4096x256_S256x1280_S8x4096x1280_2_0_01_1_n_n none (hidden z w b) w')
      (broadcastInDim S8x4096x1280 ![0, 1, 2] bcast_S1x1x1280_S8x4096x1280_0_1_2
        (broadcastInDim S1x1x1280 ![2] bcast_S1280_S1x1x1280_2 b')))
    (broadcastInDim S8x4096x1280 ![] bcast_S_S8x4096x1280 (constant (F := Ideal) S_ .f32 0x00000000#32))

/-- The reference's second result at an index. -/
theorem hidden_apply (z : FVec Ideal S8x4096x1280 .f32) (w : FVec Ideal S1280x256 .f32) (b : FVec Ideal S256 .f32)
    (i : Fin 8) (l : Fin 4096) (c : Fin 256) :
    hidden z w b (ix3 i l c) = (∑ k : Fin 1280, z (ix3 i l k) * w (ix2 k c)) + b (ix1 c) := by
  pointwise [hidden]
  done

/-- The reference's first result at an index. -/
theorem output_apply (z : FVec Ideal S8x4096x1280 .f32) (mask : Vec Ideal S8x4096 .i1) (w : FVec Ideal S1280x256 .f32)
    (b : FVec Ideal S256 .f32) (w' : FVec Ideal S256x1280 .f32) (b' : FVec Ideal S1280 .f32)
    (i : Fin 8) (l : Fin 4096) (c : Fin 1280) :
    output z mask w b w' b' (ix3 i l c)
      = if mask (ix2 i l) = 1#1 then
          (∑ k : Fin 256, hidden z w b (ix3 i l k) * w' (ix2 k c)) + b' (ix1 c)
        else 0 := by
  pointwise [output]
  rfl

end Cert.Proof.Reference

end
-- ==== Proof.Equation.lean ====
/- THE EQUATION. Row `l` of batch `i` is row `4096 * i + l` of the flattened arrays, so each of the kernel's results, as a
   function of the arguments, is the reference's. A mask entry taken to a number is one or zero, and the product by it is
   the reference's choice between the sum and zero, whatever the sum is: zero times an infinity is zero. -/
module

public import proofs.«01_k».proof.Proof.Run
public import proofs.«01_k».proof.Proof.Reference

@[expose] public section

set_option maxRecDepth 16384

noncomputable section

namespace Cert.Proof.Equation

open Idealize.ShloMosaic Cert.KernelIdeal Cert.KernelIdeal.Gen Idealize.ShloMosaic.Pointwise

variable (z : Vec Ideal S8x4096x1280 .f32) (mask : Vec Ideal S8x4096 .i1) (w : Vec Ideal S1280x256 .f32)
  (b : Vec Ideal S256 .f32) (w' : Vec Ideal S256x1280 .f32) (b' : Vec Ideal S1280 .f32)

/-- The kernel's second result at an index. -/
theorem hidden_apply (i : Fin 8) (l : Fin 4096) (c : Fin 256) :
    Run.hidden z w b (ix3 i l c) = (∑ k : Fin 1280, z (ix3 i l k) * w (ix2 k c)) + b (ix1 c) := by
  pointwise [Run.hidden, Arrays.hid]
  done

/-- The kernel's first result at an index. -/
theorem output_apply (i : Fin 8) (l : Fin 4096) (c : Fin 1280) :
    Run.output z mask w b w' b' (ix3 i l c)
      = ((∑ k : Fin 256, Run.hidden z w b (ix3 i l k) * w' (ix2 k c)) + b' (ix1 c))
        * (((mask (ix2 i l)).toNat : ℝ) : EReal) := by
  simp only [hidden_apply]
  pointwise [Run.output, Arrays.out, Arrays.hid]
  rfl

/-- A product by a bit taken to a number is a choice between the other factor and zero. -/
theorem mul_bit (x : EReal) (p : BitVec 1) : x * ((p.toNat : ℝ) : EReal) = if p = 1#1 then x else 0 := by
  by_cases h : p = 1#1
  · subst h
    simp
  · have h0 : p = 0#1 := by
      revert h; revert p; decide
    subst h0
    simp

/-- The kernel's second result is the reference's. -/
theorem hidden_eq : Run.hidden z w b = Reference.hidden z w b := by
  funext j
  obtain ⟨i, l, c, rfl⟩ : ∃ (i : Fin 8) (l : Fin 4096) (c : Fin 256), j = ix3 i l c := ⟨j 0, j 1, j 2, eq_ix3 j⟩
  exact (hidden_apply z w b i l c).trans (Reference.hidden_apply z w b i l c).symm

/-- The kernel's first result is the reference's. -/
theorem output_eq : Run.output z mask w b w' b' = Reference.output z mask w b w' b' := by
  funext j
  obtain ⟨i, l, c, rfl⟩ : ∃ (i : Fin 8) (l : Fin 4096) (c : Fin 1280), j = ix3 i l c := ⟨j 0, j 1, j 2, eq_ix3 j⟩
  rw [output_apply, hidden_eq]
  exact (mul_bit _ _).trans (Reference.output_apply z mask w b w' b' i l c).symm

end Cert.Proof.Equation

end
-- ==== Proof.lean ====
/- THE CERTIFICATE. The kernel's two frames are the generated ones; the reference's frame is its run; nothing was replaced
   between the kernel and its idealization; and the kernel's two results over the extended reals are the reference's
   (Proof/Block.lean: one block; Proof/Arrays.lean: the call's arrays; Proof/Run.lean: the results as functions of the
   arguments; Proof/Reference.lean: the reference's; Proof/Equation.lean: that they are equal). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, changes no argument, and leaves every semaphore counter at zero. -/
theorem reference_frame : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The kernel and the reference, over the extended reals and from the same arguments, both run, end with equal results,
    and change no argument: the values are `Run.output` and `Run.hidden` of the arguments. -/
theorem values_agree : Cert.algebraic_KernelIdeal_ReferenceIdeal := by
  pair_intro
  · run_from Run.run m g
  · run_from Cert.ReferenceIdeal.Value.run m' g'
    · exact (Equation.output_eq _ _ _ _ _ _).symm
    · exact (Equation.hidden_eq _ _ _).symm

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial,
    values_agree⟩

end Cert.Proof

end
